-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x32x32 : Shape := ⟨4, ![8, 256, 32, 32]⟩
abbrev S1024x256 : Shape := ⟨2, ![1024, 256]⟩
abbrev S_ : Shape := ⟨0, ![]⟩

class Facts : Prop where
  bcast_S_S8x256x32x32 : S_.BroadcastsInDim S8x256x32x32 (![] : Fin 0 → Fin S8x256x32x32.rank)
  bcast_S_S1024x256 : S_.BroadcastsInDim S1024x256 (![] : Fin 0 → Fin S1024x256.rank)

variable [Facts]

def fn {F : FTy → Type} [FloatOps F] (main_arg0 : FVec F S8x256x32x32 .f32) (main_arg1 : FVec F S1024x256 .f32) : IVec S8x256x32x32 1 × IVec S1024x256 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_v3 : FVec F S1024x256 .f32 := Host.absf main_arg1
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  (main_v2, main_v5)
-- ==== Kernel.lean ====
abbrev S8x256x32x32 : Shape := ⟨4, ![8, 256, 32, 32]⟩
abbrev S1024x256 : Shape := ⟨2, ![1024, 256]⟩
abbrev S8x32x32x256 : Shape := ⟨4, ![8, 32, 32, 256]⟩
abbrev S8x1024x256 : Shape := ⟨3, ![8, 1024, 256]⟩
abbrev S256x1024 : Shape := ⟨2, ![256, 1024]⟩
abbrev S8x256x1024 : Shape := ⟨3, ![8, 256, 1024]⟩
abbrev S8x1x1024 : Shape := ⟨3, ![8, 1, 1024]⟩
abbrev S1x1024x256 : Shape := ⟨3, ![1, 1024, 256]⟩
abbrev S1x256x1024 : Shape := ⟨3, ![1, 256, 1024]⟩
abbrev S1x1x1024 : Shape := ⟨3, ![1, 1, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S8192 : Shape := ⟨1, ![8192]⟩
abbrev S_ : Shape := ⟨0, ![]⟩

abbrev nBuf : Space → Nat
  | .hbm => 16
  | .vmem => 10
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x32x32x256, .f32⟩
  | .hbm, ⟨3, _⟩ => ⟨S8x1024x256, .f32⟩
  | .hbm, ⟨4, _⟩ => ⟨S256x1024, .f32⟩
  | .hbm, ⟨5, _⟩ => ⟨S8x256x1024, .f32⟩
  | .hbm, ⟨6, _⟩ => ⟨S8x1x1024, .i32⟩
  | .hbm, ⟨7, _⟩ => ⟨S8x1x1024, .f32⟩
  | .hbm, ⟨8, _⟩ => ⟨S8x256x32x32, .f32⟩
  | .hbm, ⟨9, _⟩ => ⟨S8192, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x1024x256, .f32⟩
  | .local _ .vmem, ⟨1, _⟩ => ⟨S1x1024x256, .f32⟩
  | .local _ .vmem, ⟨2, _⟩ => ⟨S1024x256, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .i32⟩
  | .local _ .vmem, ⟨7, _⟩ => ⟨S1x1x1024, .i32⟩
  | .local _ .vmem, ⟨8, _⟩ => ⟨S1x1x1024, .f32⟩
  | .local _ .vmem, ⟨9, _⟩ => ⟨S1x1x1024, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x256x32x32 : Shape := ⟨4, ![8, 256, 32, 32]⟩
abbrev S1024x256 : Shape := ⟨2, ![1024, 256]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x32x32x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S256x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S1, .i32⟩
  | .hbm, ⟨35, _⟩ => ⟨S_, .i32⟩
  | .hbm, ⟨36, _⟩ => ⟨S8192x1, .i32⟩
  | .hbm, ⟨37, _⟩ => ⟨S8192x1, .i1⟩
  | .hbm, ⟨38, _⟩ => ⟨S1x1, .i32⟩
  | .hbm, ⟨39, _⟩ => ⟨S8192x1, .i32⟩
  | .hbm, ⟨40, _⟩ => ⟨S8192x1, .i1⟩
  | .hbm, ⟨41, _⟩ => ⟨S8192x1, .i1⟩
  | .hbm, ⟨42, _⟩ => ⟨S_, .i1⟩
  | .hbm, ⟨43, _⟩ => ⟨S8192, .i1⟩
  | .hbm, ⟨44, _⟩ => ⟨S8192x256, .f32⟩
  | .hbm, ⟨45, _⟩ => ⟨S8192x256, .i1⟩
  | .hbm, ⟨46, _⟩ => ⟨S_, .f32⟩
  | .hbm, ⟨47, _⟩ => ⟨S8192x256, .f32⟩
  | .hbm, ⟨48, _⟩ => ⟨S8192x256, .f32⟩
  | .hbm, ⟨49, _⟩ => ⟨S8x32x32x256, .f32⟩
  | .hbm, ⟨50, _⟩ => ⟨S8x32x32x256, .f32⟩
  | .hbm, ⟨51, _⟩ => ⟨S8x32x32x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8x32x32x256, .f32⟩
  | .hbm, ⟨57, _⟩ => ⟨S8x32x32x256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x32x32x256, .f32⟩
  | .hbm, ⟨66, _⟩ => ⟨S8x32x32x256, .f32⟩
  | .hbm, ⟨67, _⟩ => ⟨S8x256x32x32, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Spec.lean ====
/- What the vector quantizer computes, in terms of no program: the distance of a vector to each code, the first nearest
   code, and two facts about folds that pick it out. -/
module

public import Idealize.ShloMosaic.Lib.Pointwise
public import Idealize.ShloMosaic.Lib.SortNet.Extract

@[expose] public section

noncomputable section

namespace Cert.Vq

open Idealize.ShloMosaic

/-- The squared distance of the vector `x` to code `k` of the codebook `cb`, written out as the two squared norms less
    twice the inner product. -/
def dist (x : Fin 256 → EReal) (cb : Fin 1024 → Fin 256 → EReal) (k : Fin 1024) : EReal :=
  ((∑ c, x c * x c) + ∑ c, cb k c * cb k c) - 2 * ∑ c, x c * cb k c

/-- `k` is the first position at which `d` is least. -/
def IsFirst {n : Nat} (d : Fin n → EReal) (k : Fin n) : Prop := (∀ j, d k ≤ d j) ∧ ∀ j, j < k → d k < d j

/-- There is at most one first least position. -/
theorem IsFirst.unique {n : Nat} {d : Fin n → EReal} {k l : Fin n} (hk : IsFirst d k) (hl : IsFirst d l) : k = l := by
  rcases lt_trichotomy k l with h | h | h
  · exact absurd (hk.1 l) (not_le.2 (hl.2 k h))
  · exact h
  · exact absurd (hl.1 k) (not_le.2 (hk.2 l h))

/-- A function on the 1024 codes has a first least position. -/
theorem exists_first (d : Fin 1024 → EReal) : ∃ k, IsFirst d k := by
  obtain ⟨m, hm⟩ := Finite.exists_min d
  have hne : (Finset.univ.filter fun k => d k = d m).Nonempty := ⟨m, by simp⟩
  refine ⟨(Finset.univ.filter fun k => d k = d m).min' hne, ?_⟩
  have h1 := Finset.min'_mem _ hne
  rw [Finset.mem_filter] at h1
  refine ⟨fun j => h1.2.le.trans (hm j), fun j hj => ?_⟩
  rw [h1.2]
  refine lt_of_le_of_ne (hm j) fun he => ?_
  exact absurd (Finset.min'_le (Finset.univ.filter fun k => d k = d m) j (by simp [he])) (not_le.2 hj)

/-- The first code nearest to a vector, from its distances `d`. -/
def first (d : Fin 1024 → EReal) : Fin 1024 := (exists_first d).choose

/-- It is the first least position. -/
theorem first_spec (d : Fin 1024 → EReal) : IsFirst d (first d) := (exists_first d).choose_spec

/-- Any first least position is it. -/
theorem eq_first {d : Fin 1024 → EReal} {k : Fin 1024} (h : IsFirst d k) : k = first d := h.unique (first_spec d)

/-- The fold of the minimum from above everything is the value at the first least position. -/
theorem fold_min_eq (d : Fin 1024 → EReal) : (Finset.univ : Finset (Fin 1024)).fold min ⊤ d = d (first d) := by
  apply le_antisymm
  · exact (Finset.fold_min_le _).2 (.inr ⟨_, Finset.mem_univ _, le_rfl⟩)
  · exact (Finset.le_fold_min _).2 ⟨le_top, fun j _ => (first_spec d).1 j⟩

/-- A fold of the signed minimum of words is any one of the words that is at most the others and the start. -/
theorem fold_minsi_eq {n : Nat} (b w : BitVec 32) (f : Fin n → BitVec 32) (k : Fin n) (hk : f k = w)
    (hb : w.toInt ≤ b.toInt) (hf : ∀ j, w.toInt ≤ (f j).toInt) :
    (Finset.univ : Finset (Fin n)).fold IntOp.minsi b f = w := by
  have key : ∀ c : BitVec 32, c.toInt ≤ ((Finset.univ : Finset (Fin n)).fold IntOp.minsi b f).toInt
      ↔ c.toInt ≤ b.toInt ∧ ∀ j ∈ (Finset.univ : Finset (Fin n)), c.toInt ≤ (f j).toInt := fun c =>
    Finset.fold_op_rel_iff_and (r := fun x y : BitVec 32 => x.toInt ≤ y.toInt) (fun {x y z} => by
      show x.toInt ≤ (IntOp.minsi y z).toInt ↔ _
      rw [SortNet.toInt_minsi]; exact le_min_iff)
  apply BitVec.eq_of_toInt_eq
  apply le_antisymm
  · rw [← hk]; exact ((key _).1 le_rfl).2 k (Finset.mem_univ _)
  · exact (key w).2 ⟨hb, fun j _ => hf j⟩

/-- The word of a code number, read back as an integer. -/
theorem toInt_code (k : Fin 1024) : (BitVec.ofNat 32 k.val).toInt = k.val := by
  have := k.isLt
  rw [BitVec.toInt_eq_toNat_cond, BitVec.toNat_ofNat, Nat.mod_eq_of_lt (by omega)]
  simp; omega

/-- The vector at pixel `p` of image `b`: the entries of `z` over the channels there. -/
def vec (z : FVec Ideal ⟨4, ![8, 256, 32, 32]⟩ .f32) (b : Fin 8) (p : Fin 1024) : Fin 256 → EReal :=
  fun c => z (ix4 b c ⟨p.val / 32, by have := p.isLt; omega⟩ ⟨p.val % 32, Nat.mod_lt _ (by decide)⟩)

/-- The codes: the rows of the codebook. -/
def codes (cb : FVec Ideal ⟨2, ![1024, 256]⟩ .f32) : Fin 1024 → Fin 256 → EReal := fun k c => cb (ix2 k c)

/-- The distances of the vector at pixel `p` of image `b` to the codes. -/
def dists (z : FVec Ideal ⟨4, ![8, 256, 32, 32]⟩ .f32) (cb : FVec Ideal ⟨2, ![1024, 256]⟩ .f32) (b : Fin 8) (p : Fin 1024) :
    Fin 1024 → EReal := dist (vec z b p) (codes cb)

/-- The first code nearest to the vector at pixel `p` of image `b`. -/
def near (z : FVec Ideal ⟨4, ![8, 256, 32, 32]⟩ .f32) (cb : FVec Ideal ⟨2, ![1024, 256]⟩ .f32) (b : Fin 8) (p : Fin 1024) :
    Fin 1024 := first (dists z cb b p)

/-- The pixel number of row `h` and column `w`. -/
def pixel (h w : Fin 32) : Fin 1024 := ⟨h.val * 32 + w.val, by have := h.isLt; have := w.isLt; omega⟩

/-- The quantized image: each vector replaced by the first code nearest to it. -/
def quant (z : FVec Ideal ⟨4, ![8, 256, 32, 32]⟩ .f32) (cb : FVec Ideal ⟨2, ![1024, 256]⟩ .f32) :
    FVec Ideal ⟨4, ![8, 256, 32, 32]⟩ .f32 := fun i => codes cb (near z cb (i 0) (pixel (i 2) (i 3))) (i 1)

/-- The numbers of those codes, over all the vectors in order. -/
def numbers (z : FVec Ideal ⟨4, ![8, 256, 32, 32]⟩ .f32) (cb : FVec Ideal ⟨2, ![1024, 256]⟩ .f32) :
    IVec ⟨1, ![8192]⟩ 32 := fun i =>
  BitVec.ofNat 32 (near z cb ⟨(i 0).val / 1024, by have h : (i 0).val < 8192 := (i 0).isLt; omega⟩
    ⟨(i 0).val % 1024, Nat.mod_lt _ (by decide)⟩).val

/-- The loss: three quarters of the mean, over all entries, of the squared distance to the first nearest code. -/
def loss (z : FVec Ideal ⟨4, ![8, 256, 32, 32]⟩ .f32) (cb : FVec Ideal ⟨2, ![1024, 256]⟩ .f32) : FVec Ideal ⟨0, ![]⟩ .f32 :=
  fun _ => Ideal.ofBits .f32 0x3F400000#32
    * Ideal.div (∑ b : Fin 8, ∑ p : Fin 1024, dists z cb b p (near z cb b p)) (Ideal.ofBits .f32 0x4A000000#32)

end Cert.Vq

end
-- ==== Proof.Block.lean ====
/- What the kernel stores for one block of 1024 vectors, entry by entry. -/
module

public import proofs.«01_k».proof.Proof.Gen.KernelIdeal.Skeleton
public import proofs.«01_k».proof.Proof.Spec

@[expose] public section

noncomputable section

namespace Cert.KernelIdeal.Block

open Idealize.ShloMosaic Cert.KernelIdeal Cert.KernelIdeal.Gen Cert.Vq

/-- The float word of two is the number two. -/
theorem ofBits_two : Ideal.ofBits .f32 0x40000000#32 = (2 : EReal) := by
  simp [Ideal.ofBits, Ideal.ieee, -EReal.coe_mul]; norm_num; rfl

/-- The float word of the minimum's start is plus infinity. -/
theorem ofBits_top : Ideal.ofBits .f32 0x7F800000#32 = (⊤ : EReal) := by
  simp [Ideal.ofBits, Ideal.ieee]

variable (v0 : FVec Ideal S1x1024x256 .f32) (v2 : FVec Ideal S1024x256 .f32) (v3 : FVec Ideal S256x1024 .f32)

/-- The distances of the vector in row `p` of the block to the codes. -/
def rowDist (p : Fin 1024) : Fin 1024 → EReal := dist (fun c => v0 (ix3 0 p c)) (fun k c => v2 (ix2 k c))

/-- The block's table of distances, at vector `p` and code `k`. -/
theorem pay4_apply (hT : ∀ c k, v3 (ix2 c k) = v2 (ix2 k c)) (p k : Fin 1024) :
    k0_pay4 (F := Ideal) v0 v2 v3 (ix2 p k) = rowDist v0 v2 p k := by
  pointwise [k0_pay4, k0_pay3]
  rw [ofBits_two]
  unfold rowDist Vq.dist
  simp only [hT]

/-- The block's least distances: at vector `p`, the distance to the first nearest code. -/
theorem pay5_apply (hT : ∀ c k, v3 (ix2 c k) = v2 (ix2 k c)) (p : Fin 1024) :
    k0_pay5 (F := Ideal) v0 v2 v3 (ix1 p) = rowDist v0 v2 p (first (rowDist v0 v2 p)) := by
  pointwise [k0_pay5]
  rw [ofBits_top]
  simp only [pay4_apply v0 v2 v3 hT]
  exact fold_min_eq _

/-- The block's codes: at vector `p`, the number of the first nearest code. -/
theorem pay6_apply (hT : ∀ c k, v3 (ix2 c k) = v2 (ix2 k c)) (p : Fin 1024) :
    k0_pay6 (F := Ideal) v0 v2 v3 (ix1 p) = BitVec.ofNat 32 (first (rowDist v0 v2 p)).val := by
  pointwise [k0_pay6]
  simp only [pay4_apply v0 v2 v3 hT, pay5_apply v0 v2 v3 hT]
  have hs := first_spec (rowDist v0 v2 p)
  have hlt := (first (rowDist v0 v2 p)).isLt
  refine fold_minsi_eq _ _ _ (first (rowDist v0 v2 p)) (if_pos rfl) ?_ fun j => ?_
  · rw [toInt_code]
    have : (2147483647#32 : BitVec 32).toInt = 2147483647 := by decide
    rw [this]; omega
  · rw [toInt_code]
    split_ifs with he
    · rw [toInt_code]
      by_contra hc
      have hj : j < first (rowDist v0 v2 p) := by rw [Fin.lt_def]; omega
      exact absurd he (hs.2 j hj).ne'
    · have : (1024#32 : BitVec 32).toInt = 1024 := by decide
      rw [this]; omega

/-- An entry of the one-hot table: one where the row is the code, else zero. -/
theorem onehot (x k : Fin 1024) :
    (FloatOps.sitofp .f32 (BitVec.setWidth 32 (IntOp.cmpi .eq (BitVec.ofNat 32 x.val) (BitVec.ofNat 32 k.val))) : Ideal .f32)
      = (if x = k then (1 : EReal) else 0) := by
  have h : (BitVec.ofNat 32 x.val = BitVec.ofNat 32 k.val) ↔ x = k := by
    constructor
    · intro h
      have := congrArg BitVec.toInt h
      rw [toInt_code, toInt_code] at this
      exact Fin.ext (by omega)
    · rintro rfl; rfl
  by_cases hx : x = k
  · rw [if_pos hx, hx]
    show (((BitVec.setWidth 32 (IntOp.cmpi .eq (BitVec.ofNat 32 k.val) (BitVec.ofNat 32 k.val))).toInt : ℝ) : EReal) = 1
    simp [IntOp.cmpi]
  · rw [if_neg hx]
    have : ¬ BitVec.ofNat 32 x.val = BitVec.ofNat 32 k.val := fun e => hx (h.1 e)
    show (((BitVec.setWidth 32 (IntOp.cmpi .eq (BitVec.ofNat 32 x.val) (BitVec.ofNat 32 k.val))).toInt : ℝ) : EReal) = 0
    have hb : IntOp.cmpi .eq (BitVec.ofNat 32 x.val) (BitVec.ofNat 32 k.val) = 0#1 := by
      show BitVec.ofBool (BitVec.ofNat 32 x.val == BitVec.ofNat 32 k.val) = 0#1
      rw [beq_false_of_ne this]; rfl
    rw [hb]; simp

/-- The block's quantized vectors: at channel `c` and vector `p`, the first nearest code's entry. -/
theorem pay7_apply (hT : ∀ c k, v3 (ix2 c k) = v2 (ix2 k c)) (c : Fin 256) (p : Fin 1024) :
    k0_pay7 (F := Ideal) v0 v2 v3 (ix3 0 c p) = v2 (ix2 (first (rowDist v0 v2 p)) c) := by
  pointwise [k0_pay7, k0_pay3]
  simp only [pay6_apply v0 v2 v3 hT, onehot, hT, mul_ite, mul_one, mul_zero]
  rw [Finset.sum_ite_eq' Finset.univ]
  simp

end Cert.KernelIdeal.Block

end
-- ==== Proof.Arrays.lean ====
/- What the arrays hold: the operands as the kernel's grid finds them, and each output array when the grid is done. -/
module

public import proofs.«01_k».proof.Proof.Gen.KernelIdeal.Frame
public import proofs.«01_k».proof.Proof.Block
public import Idealize.ShloMosaic.Lib.Pipeline.Value

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Block Cert.Vq

variable (m : (ℓ : Loc nD τ sig) → Buf (Elt Ideal) ℓ)

/-- The image a device is given. -/
abbrev img (c : Dev nD) : FVec Ideal S8x256x32x32 .f32 := m ((c : Thread nD τ).loc main_arg0)
/-- The codebook a device is given. -/
abbrev book (c : Dev nD) : FVec Ideal S1024x256 .f32 := m ((c : Thread nD τ).loc main_arg1)

/-- The first operand is the image with its channels moved last and its pixels in one row. -/
theorem V_v1 (c : Dev nD) : (V m c main_v1 : FVec Ideal S8x1024x256 .f32)
    = shapeCast S8x1024x256 (transpose S8x32x32x256 [0, 2, 3, 1] (img m c) transposes_S8x256x32x32_S8x32x32x256_0_2_3_1)
        shapeCasts_S8x32x32x256_S8x1024x256 := by
  show StableHlo.after hostOps0 (fun b => m (c, b)) (Proc.devRef .tc main_v1) = _
  after_results
  rfl

/-- The third operand is the codebook transposed. -/
theorem V_v2 (c : Dev nD) : (V m c main_v2 : FVec Ideal S256x1024 .f32)
    = transpose S256x1024 [1, 0] (book m c) transposes_S1024x256_S256x1024_1_0 := by
  show StableHlo.after hostOps0 (fun b => m (c, b)) (Proc.devRef .tc main_v2) = _
  after_results

/-- Row `p` of image `b` of the first operand is the vector at pixel `p`. -/
theorem V_v1_apply (c : Dev nD) (b : Fin 8) (p : Fin 1024) (k : Fin 256) :
    (V m c main_v1 : FVec Ideal S8x1024x256 .f32) (ix3 b p k) = vec (img m c) b p k := by
  rw [V_v1]
  pointwise
  rfl

/-- Entry `(k, j)` of the third operand is entry `k` of code `j`. -/
theorem V_v2_apply (c : Dev nD) (k : Fin 256) (j : Fin 1024) :
    (V m c main_v2 : FVec Ideal S256x1024 .f32) (ix2 k j) = codes (book m c) j k := by
  rw [V_v2]
  pointwise
  rfl

/-- The grid point of an image. -/
abbrev pt (t : Fin cfg0.N) : Fin 8 := ⟨t.val, t.isLt⟩

/-- The block indices of the windows: the moving ones are at the image's number, the others at zero. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The same for the codebook's window. -/
theorem idx1 : ∀ t : Fin cfg0.N, win0_1.index t (0 : Fin 2) = 0 ∧ win0_1.index t (1 : Fin 2) = 0 :=
  (by decide +kernel : ∀ t : Fin grid0.N, _)
/-- The same for the transposed codebook's window. -/
theorem idx2 : ∀ t : Fin cfg0.N, win0_2.index t (0 : Fin 2) = 0 ∧ win0_2.index t (1 : Fin 2) = 0 :=
  (by decide +kernel : ∀ t : Fin grid0.N, _)
/-- The same for the window of the quantized vectors. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
/-- The same for the window of the codes' numbers. -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
/-- The same for the window of the least distances. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- Entry `(p, k)` of the first window's block at point `t` is entry `(t, p, k)` of its array. -/
theorem emb0 (t : Fin cfg0.N) (p : Fin 1024) (k : Fin 256) :
    ((cfg0.win 0).blk t).view.emb (ix3 (0 : Fin 1) p k : S1x1024x256.Idx) = (ix3 (pt t) p k : S8x1024x256.Idx) := by
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 256 + 1 * k.val = k.val; omega

/-- The codebook's block is the codebook. -/
theorem emb1 (t : Fin cfg0.N) (j : S1024x256.Idx) : ((cfg0.win 1).blk t).view.emb j = j := by
  obtain ⟨e0, e1⟩ := idx1 t
  funext a; apply Fin.ext
  match a with
  | ⟨0, _⟩ => show win0_1.index t (0 : Fin 2) * 1024 + 1 * (j 0).val = (j 0).val; omega
  | ⟨1, _⟩ => show win0_1.index t (1 : Fin 2) * 256 + 1 * (j 1).val = (j 1).val; omega

/-- The transposed codebook's block is the whole of it. -/
theorem emb2 (t : Fin cfg0.N) (j : S256x1024.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 1024 + 1 * (j 1).val = (j 1).val; omega

/-- Entry `(k, p)` of the quantized block at point `t` is entry `(t, k, p)` of the array. -/
theorem emb3 (t : Fin cfg0.N) (k : Fin 256) (p : Fin 1024) :
    ((cfg0.win 3).blk t).view.emb (ix3 (0 : Fin 1) k p : S1x256x1024.Idx) = (ix3 (pt t) k p : S8x256x1024.Idx) := by
  obtain ⟨e0, e1, e2⟩ := idx3 t
  funext a; apply Fin.ext
  match a with
  | ⟨0, _⟩ => show win0_3.index t (0 : Fin 3) * 1 + 1 * 0 = t.val; omega
  | ⟨1, _⟩ => show win0_3.index t (1 : Fin 3) * 256 + 1 * k.val = k.val; omega
  | ⟨2, _⟩ => show win0_3.index t (2 : Fin 3) * 1024 + 1 * p.val = p.val; omega

/-- Entry `p` of the numbers' block at point `t` is entry `(t, 0, p)` of the array. -/
theorem emb4 (t : Fin cfg0.N) (p : Fin 1024) :
    ((cfg0.win 4).blk t).view.emb (ix3 (0 : Fin 1) (0 : Fin 1) p : S1x1x1024.Idx) = (ix3 (pt t) (0 : Fin 1) p : S8x1x1024.Idx) := by
  obtain ⟨e0, e1, e2⟩ := idx4 t
  funext a; apply Fin.ext
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 1024 + 1 * p.val = p.val; omega

/-- Entry `p` of the least distances' block at point `t` is entry `(t, 0, p)` of the array. -/
theorem emb5 (t : Fin cfg0.N) (p : Fin 1024) :
    ((cfg0.win 5).blk t).view.emb (ix3 (0 : Fin 1) (0 : Fin 1) p : S1x1x1024.Idx) = (ix3 (pt t) (0 : Fin 1) p : S8x1x1024.Idx) := by
  obtain ⟨e0, e1, e2⟩ := idx5 t
  funext a; apply Fin.ext
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 1024 + 1 * p.val = p.val; omega

/-- The first window's block at point `t` holds image `t`'s vectors. -/
theorem iblk0_apply (c : Dev nD) (t : Fin cfg0.N) (p : Fin 1024) (k : Fin 256) :
    (iblk m c 0 t : FVec Ideal S1x1024x256 .f32) (ix3 0 p k) = vec (img m c) (pt t) p k := by
  rw [← V_v1_apply m c (pt t) p k]
  show (V m c main_v1 : FVec Ideal S8x1024x256 .f32) (((cfg0.win 0).blk t).view.emb (ix3 (0 : Fin 1) p k : S1x1024x256.Idx)) = _
  rw [emb0]

/-- The second window's block holds the codes. -/
theorem iblk1_apply (c : Dev nD) (t : Fin cfg0.N) (j : Fin 1024) (k : Fin 256) :
    (iblk m c 1 t : FVec Ideal S1024x256 .f32) (ix2 j k) = codes (book m c) j k := by
  show (V m c main_arg1 : FVec Ideal S1024x256 .f32) (((cfg0.win 1).blk t).view.emb (ix2 j k : S1024x256.Idx)) = _
  rw [emb1, V_main_arg1]
  rfl

/-- The third window's block holds the codes transposed. -/
theorem iblk2_apply (c : Dev nD) (t : Fin cfg0.N) (k : Fin 256) (j : Fin 1024) :
    (iblk m c 2 t : FVec Ideal S256x1024 .f32) (ix2 k j) = codes (book m c) j k := by
  rw [← V_v2_apply m c k j]
  show (V m c main_v2 : FVec Ideal S256x1024 .f32) (((cfg0.win 2).blk t).view.emb (ix2 k j : S256x1024.Idx)) = _
  rw [emb2]

/-- At point `t` the two codebook operands agree. -/
theorem codes_agree (c : Dev nD) (t : Fin cfg0.N) (k : Fin 256) (j : Fin 1024) :
    (iblk m c 2 t : FVec Ideal S256x1024 .f32) (ix2 k j) = (iblk m c 1 t : FVec Ideal S1024x256 .f32) (ix2 j k) := by
  rw [iblk2_apply, iblk1_apply]

/-- At point `t` a row's distances are those of image `t`'s vector. -/
theorem rowDist_eq (c : Dev nD) (t : Fin cfg0.N) (p : Fin 1024) :
    rowDist (iblk m c 0 t) (iblk m c 1 t) p = dists (img m c) (book m c) (pt t) p := by
  unfold rowDist dists
  congr 1
  · funext k; exact iblk0_apply m c t p k
  · funext j k; exact iblk1_apply m c t j k

theorem hz3 : (![0, 0, 0] : Fin 3 → Nat) = fun _ => 0 := funext fun a => by fin_cases a <;> rfl
theorem hz2 : (![0, 0] : Fin 2 → Nat) = fun _ => 0 := funext fun a => by fin_cases a <;> rfl

/-- A point's quantized block is the body's third result over the three blocks. -/
theorem out3_eq (x0 : FVec Ideal S1x1024x256 .f32) (x1 : FVec Ideal S1024x256 .f32) (x2 : FVec Ideal S256x1024 .f32) :
    out0_3 (F := Ideal) x0 x1 x2 = k0_pay7 (F := Ideal) x0 x1 x2 := by
  unfold out0_3
  rw [View.canon_unit_zero hz3, View.ld_unit_zero hz3, View.ld_unit_zero hz2, View.ld_unit_zero hz2]

/-- A point's block of numbers likewise. -/
theorem out4_eq (x0 : FVec Ideal S1x1024x256 .f32) (x1 : FVec Ideal S1024x256 .f32) (x2 : FVec Ideal S256x1024 .f32) :
    out0_4 (F := Ideal) x0 x1 x2 = k0_pay1 (k0_pay6 (F := Ideal) x0 x1 x2) := by
  unfold out0_4
  rw [View.canon_unit_zero hz3, View.ld_unit_zero hz3, View.ld_unit_zero hz2, View.ld_unit_zero hz2]

/-- A point's block of least distances likewise. -/
theorem out5_eq (x0 : FVec Ideal S1x1024x256 .f32) (x1 : FVec Ideal S1024x256 .f32) (x2 : FVec Ideal S256x1024 .f32) :
    out0_5 (F := Ideal) x0 x1 x2 = k0_pay2 (F := Ideal) (k0_pay5 (F := Ideal) x0 x1 x2) := by
  unfold out0_5
  rw [View.canon_unit_zero hz3, View.ld_unit_zero hz3, View.ld_unit_zero hz2, View.ld_unit_zero hz2]

/-- What the array of quantized vectors is to hold. -/
def quant3 (c : Dev nD) : FVec Ideal S8x256x1024 .f32 :=
  fun i => codes (book m c) (near (img m c) (book m c) (i 0) (i 2)) (i 1)

/-- What the array of numbers is to hold. -/
def numbers3 (c : Dev nD) : IVec S8x1x1024 32 := fun i => BitVec.ofNat 32 (near (img m c) (book m c) (i 0) (i 2)).val

/-- What the array of least distances is to hold. -/
def least3 (c : Dev nD) : FVec Ideal S8x1x1024 .f32 :=
  fun i => dists (img m c) (book m c) (i 0) (i 2) (near (img m c) (book m c) (i 0) (i 2))

/-- Point `t` writes its block of the quantized vectors. -/
theorem flushed3 (c : Dev nD) (t : Fin cfg0.N) :
    (dats m 0 c).flushed 3 t = ((cfg0.win 3).blk t).view.read (Elt Ideal) (quant3 m c) := by
  show (cfg0.win 3).cut (grid0.coords t) ((dats m 0 c).after 3 t) = _
  rw [after0_3, out3_eq]
  funext y
  obtain ⟨k, p, rfl⟩ : ∃ (k : Fin 256) (p : Fin 1024), y = (ix3 (0 : Fin 1) k p : S1x256x1024.Idx) :=
    ⟨y 1, y 2, (eq_ix3 (n0 := 1) (n1 := 256) (n2 := 1024) y).trans (by congr 1; exact Subsingleton.elim _ _)⟩
  show k0_pay7 (F := Ideal) (iblk m c 0 t) (iblk m c 1 t) (iblk m c 2 t) (ix3 0 k p)
    = quant3 m c (((cfg0.win 3).blk t).view.emb (ix3 (0 : Fin 1) k p : S1x256x1024.Idx))
  rw [emb3, pay7_apply _ _ _ (codes_agree m c t), rowDist_eq, iblk1_apply]
  rfl

/-- Point `t` writes its block of the numbers. -/
theorem flushed4 (c : Dev nD) (t : Fin cfg0.N) :
    (dats m 0 c).flushed 4 t = ((cfg0.win 4).blk t).view.read (Elt Ideal) (numbers3 m c) := by
  show (cfg0.win 4).cut (grid0.coords t) ((dats m 0 c).after 4 t) = _
  rw [after0_4, out4_eq]
  funext y
  obtain ⟨p, rfl⟩ : ∃ (p : Fin 1024), y = (ix3 (0 : Fin 1) (0 : Fin 1) p : S1x1x1024.Idx) :=
    ⟨y 2, (eq_ix3 (n0 := 1) (n1 := 1) (n2 := 1024) y).trans (by congr 1 <;> exact Subsingleton.elim _ _)⟩
  show k0_pay1 (k0_pay6 (F := Ideal) (iblk m c 0 t) (iblk m c 1 t) (iblk m c 2 t)) (ix3 0 0 p)
    = numbers3 m c (((cfg0.win 4).blk t).view.emb (ix3 (0 : Fin 1) (0 : Fin 1) p : S1x1x1024.Idx))
  rw [emb4]
  have h : k0_pay1 (k0_pay6 (F := Ideal) (iblk m c 0 t) (iblk m c 1 t) (iblk m c 2 t)) (ix3 0 0 p)
      = k0_pay6 (F := Ideal) (iblk m c 0 t) (iblk m c 1 t) (iblk m c 2 t) (ix1 p) := by pointwise [k0_pay1]
  rw [h, pay6_apply _ _ _ (codes_agree m c t), rowDist_eq]
  rfl

/-- Point `t` writes its block of the least distances. -/
theorem flushed5 (c : Dev nD) (t : Fin cfg0.N) :
    (dats m 0 c).flushed 5 t = ((cfg0.win 5).blk t).view.read (Elt Ideal) (least3 m c) := by
  show (cfg0.win 5).cut (grid0.coords t) ((dats m 0 c).after 5 t) = _
  rw [after0_5, out5_eq]
  funext y
  obtain ⟨p, rfl⟩ : ∃ (p : Fin 1024), y = (ix3 (0 : Fin 1) (0 : Fin 1) p : S1x1x1024.Idx) :=
    ⟨y 2, (eq_ix3 (n0 := 1) (n1 := 1) (n2 := 1024) y).trans (by congr 1 <;> exact Subsingleton.elim _ _)⟩
  show k0_pay2 (k0_pay5 (F := Ideal) (iblk m c 0 t) (iblk m c 1 t) (iblk m c 2 t)) (ix3 0 0 p)
    = least3 m c (((cfg0.win 5).blk t).view.emb (ix3 (0 : Fin 1) (0 : Fin 1) p : S1x1x1024.Idx))
  rw [emb5]
  have h : k0_pay2 (k0_pay5 (F := Ideal) (iblk m c 0 t) (iblk m c 1 t) (iblk m c 2 t)) (ix3 0 0 p)
      = k0_pay5 (F := Ideal) (iblk m c 0 t) (iblk m c 1 t) (iblk m c 2 t) (ix1 p) := by pointwise [k0_pay2]
  rw [h, pay5_apply _ _ _ (codes_agree m c t), rowDist_eq]
  rfl

/-- Every entry of the quantized array is in some point's block. -/
theorem cover3 (i : S8x256x1024.Idx) : ∃ t : Fin cfg0.N, (cfg0.win 3).flush t = true ∧ i ∈ ((cfg0.win 3).blk t).view.set :=
  ⟨⟨(i 0).val, (i 0).isLt⟩, flush0_3 _, by
    have e := eq_ix3 (n0 := 8) (n1 := 256) (n2 := 1024) i
    exact Eq.subst (motive := fun x => x ∈ ((cfg0.win 3).blk ⟨(i 0).val, (i 0).isLt⟩).view.set)
      ((emb3 ⟨(i 0).val, (i 0).isLt⟩ (i 1) (i 2)).trans e.symm)
      (((cfg0.win 3).blk ⟨(i 0).val, (i 0).isLt⟩).view.emb_mem_set (ix3 (0 : Fin 1) (i 1) (i 2) : S1x256x1024.Idx))⟩

/-- Every entry of the array of numbers is in some point's block. -/
theorem cover4 (i : S8x1x1024.Idx) : ∃ t : Fin cfg0.N, (cfg0.win 4).flush t = true ∧ i ∈ ((cfg0.win 4).blk t).view.set :=
  ⟨⟨(i 0).val, (i 0).isLt⟩, flush0_4 _, by
    have e := eq_ix3 (n0 := 8) (n1 := 1) (n2 := 1024) i
    have h1 : i 1 = (0 : Fin 1) := Subsingleton.elim (α := Fin 1) _ _
    rw [h1] at e
    exact Eq.subst (motive := fun x => x ∈ ((cfg0.win 4).blk ⟨(i 0).val, (i 0).isLt⟩).view.set)
      ((emb4 ⟨(i 0).val, (i 0).isLt⟩ (i 2)).trans e.symm)
      (((cfg0.win 4).blk ⟨(i 0).val, (i 0).isLt⟩).view.emb_mem_set (ix3 (0 : Fin 1) (0 : Fin 1) (i 2) : S1x1x1024.Idx))⟩

/-- Every entry of the array of least distances is in some point's block. -/
theorem cover5 (i : S8x1x1024.Idx) : ∃ t : Fin cfg0.N, (cfg0.win 5).flush t = true ∧ i ∈ ((cfg0.win 5).blk t).view.set :=
  ⟨⟨(i 0).val, (i 0).isLt⟩, flush0_5 _, by
    have e := eq_ix3 (n0 := 8) (n1 := 1) (n2 := 1024) i
    have h1 : i 1 = (0 : Fin 1) := Subsingleton.elim (α := Fin 1) _ _
    rw [h1] at e
    exact Eq.subst (motive := fun x => x ∈ ((cfg0.win 5).blk ⟨(i 0).val, (i 0).isLt⟩).view.set)
      ((emb5 ⟨(i 0).val, (i 0).isLt⟩ (i 2)).trans e.symm)
      (((cfg0.win 5).blk ⟨(i 0).val, (i 0).isLt⟩).view.emb_mem_set (ix3 (0 : Fin 1) (0 : Fin 1) (i 2) : S1x1x1024.Idx))⟩

/-- The array of quantized vectors when the grid is done. -/
theorem final3 (c : Dev nD) : (dats m 0 c).arrAt 3 cfg0.N = quant3 m c :=
  (dats m 0 c).arrAt_eq_of_cover 3 (quant3 m c) (fun t _ => flushed3 m c t) cover3

/-- The array of numbers when the grid is done. -/
theorem final4 (c : Dev nD) : (dats m 0 c).arrAt 4 cfg0.N = numbers3 m c :=
  (dats m 0 c).arrAt_eq_of_cover 4 (numbers3 m c) (fun t _ => flushed4 m c t) cover4

/-- The array of least distances when the grid is done. -/
theorem final5 (c : Dev nD) : (dats m 0 c).arrAt 5 cfg0.N = least3 m c :=
  (dats m 0 c).arrAt_eq_of_cover 5 (least3 m c) (fun t _ => flushed5 m c t) cover5

end Cert.KernelIdeal.Arrays

end
-- ==== Proof.KernelRun.lean ====
/- The kernel's three results: the operations after the grid, read over the arrays the grid leaves. -/
module

public import proofs.«01_k».proof.Proof.Arrays

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Block Cert.Vq

variable (m : (ℓ : Loc nD τ sig) → Buf (Elt Ideal) ℓ)

/-- The valuation the operations after the grid start from. -/
abbrev left (c : Dev nD) : Valuation τ sig (Elt Ideal) :=
  Pipeline.withArrays (cfgs 0).spec c (V0 m c) fun w => (dats m 0 c).arrAt w cfg0.N

/-- There the array of quantized vectors is as the grid leaves it. -/
theorem left_v3_0 (c : Dev nD) : left m c (Proc.devRef .tc main_v3_0) = quant3 m c := by
  have h := Pipeline.withArrays_arr (cfgs 0).spec (by decide) c (V0 m c) (fun w => (dats m 0 c).arrAt w cfg0.N) 3
  exact h.trans (final3 m c)

/-- There the array of numbers is as the grid leaves it. -/
theorem left_v3_1 (c : Dev nD) : left m c (Proc.devRef .tc main_v3_1) = numbers3 m c :=
  (Pipeline.withArrays_arr (cfgs 0).spec (by decide) c (V0 m c) (fun w => (dats m 0 c).arrAt w cfg0.N) 4).trans (final4 m c)

/-- There the array of least distances is as the grid leaves it. -/
theorem left_v3_2 (c : Dev nD) : left m c (Proc.devRef .tc main_v3_2) = least3 m c :=
  (Pipeline.withArrays_arr (cfgs 0).spec (by decide) c (V0 m c) (fun w => (dats m 0 c).arrAt w cfg0.N) 5).trans (final5 m c)

/-- The first result is the array of quantized vectors with its pixels in rows and columns. -/
theorem tail_v4 (c : Dev nD) : (Pipeline.afterTail₀ cfgs (dats m) 0 (V0 m) [hostOps1] c main_v4 : FVec Ideal S8x256x32x32 .f32)
    = shapeCast S8x256x32x32 (quant3 m c) shapeCasts_S8x256x1024_S8x256x32x32 := by
  unfold Pipeline.afterTail₀
  show StableHlo.after hostOps1 (left m c) (Proc.devRef .tc main_v4) = _
  after_results
  rw [left_v3_0]
  rfl

/-- The second result is the array of numbers in one row. -/
theorem tail_v5 (c : Dev nD) : (Pipeline.afterTail₀ cfgs (dats m) 0 (V0 m) [hostOps1] c main_v5 : IVec S8192 32)
    = shapeCast S8192 (numbers3 m c) shapeCasts_S8x1x1024_S8192 := by
  unfold Pipeline.afterTail₀
  show StableHlo.after hostOps1 (left m c) (Proc.devRef .tc main_v5) = _
  after_results
  rw [left_v3_1]
  rfl

/-- The third result is three quarters of the mean of the least distances. -/
theorem tail_v8 (c : Dev nD) : (Pipeline.afterTail₀ cfgs (dats m) 0 (V0 m) [hostOps1] c main_v8 : FVec Ideal S_ .f32)
    = mulf (constant S_ .f32 0x3F400000#32)
        (Host.divf (Host.reduceAdd (least3 m c) (constant S_ .f32 0x00000000#32) reducesTo_S8x1x1024_S_d0_1_2 h_S_)
          (constant S_ .f32 0x4A000000#32)) := by
  unfold Pipeline.afterTail₀
  show StableHlo.after hostOps1 (left m c) (Proc.devRef .tc main_v8) = _
  after_results
  rw [left_v3_2]

/-- That first result is the quantized image. -/
theorem cast4 (c : Dev nD) :
    shapeCast S8x256x32x32 (quant3 m c) shapeCasts_S8x256x1024_S8x256x32x32 = quant (img m c) (book m c) := by
  funext i
  obtain ⟨b, k, h, w, rfl⟩ : ∃ (b : Fin 8) (k : Fin 256) (h w : Fin 32), i = (ix4 b k h w : S8x256x32x32.Idx) :=
    ⟨_, _, _, _, eq_ix4 (n0 := 8) (n1 := 256) (n2 := 32) (n3 := 32) i⟩
  pointwise
  rfl

/-- That second result is the codes' numbers. -/
theorem cast5 (c : Dev nD) : shapeCast S8192 (numbers3 m c) shapeCasts_S8x1x1024_S8192 = numbers (img m c) (book m c) := by
  funext i
  obtain ⟨n, rfl⟩ : ∃ n : Fin 8192, i = (ix1 n : S8192.Idx) := ⟨_, eq_ix1 (n0 := 8192) i⟩
  pointwise
  rfl

/-- That third result is the loss. -/
theorem mean8 (c : Dev nD) :
    mulf (constant S_ .f32 0x3F400000#32)
        (Host.divf (Host.reduceAdd (least3 m c) (constant S_ .f32 0x00000000#32) reducesTo_S8x1x1024_S_d0_1_2 h_S_)
          (constant S_ .f32 0x4A000000#32)) = loss (img m c) (book m c) := by
  funext i
  pointwise
  simp only [Fin.sum_univ_one]
  rfl

/-- Every execution of the kernel ends with its results at the specification's values, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v4) = quant (img m c) (book m c)
      ∧ r.2.mem ((c.tc : Thread nD τ).loc main_v5) = numbers (img m c) (book m c)
      ∧ r.2.mem ((c.tc : Thread nD τ).loc main_v8) = loss (img m c) (book m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 (by decide) (by decide))).trans ((tail_v4 m c).trans (cast4 m c)),
      ((h c).2 main_v5 (Pipeline.mem_restRefs_of main_v5 (by decide) (by decide))).trans ((tail_v5 m c).trans (cast5 m c)),
      ((h c).2 main_v8 (Pipeline.mem_restRefs_of main_v8 (by decide) (by decide))).trans ((tail_v8 m c).trans (mean8 m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Arrays

end
-- ==== Proof.RefRun.lean ====
/- The reference as a list of its host operations, its frame, and its run with each result named. -/
module

public import proofs.«01_k».proof.Proof.Gen.ReferenceIdeal
public import Idealize.ShloMosaic.Lib.StableHlo.Run
public import Idealize.ShloMosaic.Lib.Quiescent

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, those of a function it calls in the call's place. -/
abbrev line : List (HloOp τ sig (Elt F)) :=
  [ unary main_arg0 main_v0 ((transpose S8x32x32x256 [0, 2, 3, 1] · transposes_S8x256x32x32_S8x32x32x256_0_2_3_1) : (⟨S8x256x32x32, .f32⟩ : BufTy).Contents (Elt F) → (⟨S8x32x32x256, .f32⟩ : BufTy).Contents (Elt F)),
    reshape main_v0 main_v1 (rfl : (.f32 : EltTy) = .f32) shapeCasts_S8x32x32x256_S8192x256,
    binary main_v1 main_v1 main_v2 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v2 main_cst main_v3 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v3 main_v4 (broadcastInDim S8192x1 ![0] bcast_S8192_S8192x1_0 : (⟨S8192, .f32⟩ : BufTy).Contents (Elt F) → (⟨S8192x1, .f32⟩ : BufTy).Contents (Elt F)),
    binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S8192x1024 ![0, 1] bcast_S8192x1_S8192x1024_0_1 : (⟨S8192x1, .f32⟩ : BufTy).Contents (Elt F) → (⟨S8192x1024, .f32⟩ : BufTy).Contents (Elt F)),
    unary main_v7 main_v9 (broadcastInDim S8192x1024 ![0, 1] bcast_S1x1024_S8192x1024_0_1 : (⟨S1x1024, .f32⟩ : BufTy).Contents (Elt F) → (⟨S8192x1024, .f32⟩ : BufTy).Contents (Elt F)),
    binary main_v8 main_v9 main_v10 (addf : (⟨S8192x1024, .f32⟩ : BufTy).Contents (Elt F) → (⟨S8192x1024, .f32⟩ : BufTy).Contents (Elt F) → (⟨S8192x1024, .f32⟩ : BufTy).Contents (Elt F)),
    unary main_arg1 main_v11 ((transpose S256x1024 [1, 0] · transposes_S1024x256_S256x1024_1_0) : (⟨S1024x256, .f32⟩ : BufTy).Contents (Elt F) → (⟨S256x1024, .f32⟩ : BufTy).Contents (Elt F)),
    binary main_v1 main_v11 main_v12 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    nullary main_cst_1 (constant S_ .f32 0x40000000#32),
    unary main_cst_1 main_v13 (broadcastInDim S8192x1024 ![] bcast_S_S8192x1024 : (⟨S_, .f32⟩ : BufTy).Contents (Elt F) → (⟨S8192x1024, .f32⟩ : BufTy).Contents (Elt F)),
    binary main_v13 main_v12 main_v14 (mulf : (⟨S8192x1024, .f32⟩ : BufTy).Contents (Elt F) → (⟨S8192x1024, .f32⟩ : BufTy).Contents (Elt F) → (⟨S8192x1024, .f32⟩ : BufTy).Contents (Elt F)),
    binary main_v10 main_v14 main_v15 (subf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S8192x1024, .i32⟩) main_call0_v0) (iotaInDim S8192x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S8192x1024, .f32⟩) main_v15) (TRef.of (T := ⟨S8192x1024, .i32⟩) main_call0_v0) (TRef.of (T := ⟨S_, .f32⟩) main_call0_cst) (TRef.of (T := ⟨S_, .i32⟩) main_call0_c) (TRef.of (T := ⟨S8192, .f32⟩) main_call0_v1_0) (fun x y u v j => (Host.argReduce reducer_argmin_f32_i32 x y u v reducesTo_S8192x1024_S8192_d1 h_S_ j).1),
    TRef.quaternary (TRef.of (T := ⟨S8192x1024, .f32⟩) main_v15) (TRef.of (T := ⟨S8192x1024, .i32⟩) main_call0_v0) (TRef.of (T := ⟨S_, .f32⟩) main_call0_cst) (TRef.of (T := ⟨S_, .i32⟩) main_call0_c) (TRef.of (T := ⟨S8192, .i32⟩) main_v16) (fun x y u v j => (Host.argReduce reducer_argmin_f32_i32 x y u v reducesTo_S8192x1024_S8192_d1 h_S_ j).2),
    TRef.nullary (TRef.of (T := ⟨S_, .i32⟩) main_call1_c) (constantI S_ 32 0#32),
    TRef.unary (TRef.of (T := ⟨S_, .i32⟩) main_call1_c) (TRef.of (T := ⟨S8192, .i32⟩) main_call1_v0) (broadcastInDim S8192 ![] bcast_S_S8192),
    TRef.binary (TRef.of (T := ⟨S8192, .i32⟩) main_v16) (TRef.of (T := ⟨S8192, .i32⟩) main_call1_v0) (TRef.of (T := ⟨S8192, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S8192, .i32⟩) main_call1_v2) (broadcastInDim S8192 ![] bcast_S_S8192),
    TRef.binary (TRef.of (T := ⟨S8192, .i32⟩) main_v16) (TRef.of (T := ⟨S8192, .i32⟩) main_call1_v2) (TRef.of (T := ⟨S8192, .i32⟩) main_call1_v3) addi,
    TRef.ternary (TRef.of (T := ⟨S8192, .i1⟩) main_call1_v1) (TRef.of (T := ⟨S8192, .i32⟩) main_call1_v3) (TRef.of (T := ⟨S8192, .i32⟩) main_v16) (TRef.of (T := ⟨S8192, .i32⟩) main_call1_v4) select,
    TRef.unary (TRef.of (T := ⟨S8192, .i32⟩) main_call1_v4) (TRef.of (T := ⟨S8192x1, .i32⟩) main_call1_v5) (broadcastInDim S8192x1 ![0] bcast_S8192_S8192x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S8192x1, .i32⟩) main_call1_v6) (broadcastInDim S8192x1 ![] bcast_S_S8192x1),
    TRef.binary (TRef.of (T := ⟨S8192x1, .i32⟩) main_call1_v5) (TRef.of (T := ⟨S8192x1, .i32⟩) main_call1_v6) (TRef.of (T := ⟨S8192x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S8192x1, .i32⟩) main_call1_v9) (broadcastInDim S8192x1 ![0, 1] bcast_S1x1_S8192x1_0_1),
    TRef.binary (TRef.of (T := ⟨S8192x1, .i32⟩) main_call1_v5) (TRef.of (T := ⟨S8192x1, .i32⟩) main_call1_v9) (TRef.of (T := ⟨S8192x1, .i1⟩) main_call1_v10) (cmpi .sle),
    TRef.binary (TRef.of (T := ⟨S8192x1, .i1⟩) main_call1_v7) (TRef.of (T := ⟨S8192x1, .i1⟩) main_call1_v10) (TRef.of (T := ⟨S8192x1, .i1⟩) main_call1_v11) andi,
    TRef.nullary (TRef.of (T := ⟨S_, .i1⟩) main_call1_c_3) (constantI S_ 1 1#1),
    TRef.binary (TRef.of (T := ⟨S8192x1, .i1⟩) main_call1_v11) (TRef.of (T := ⟨S_, .i1⟩) main_call1_c_3) (TRef.of (T := ⟨S8192, .i1⟩) main_call1_v12) (fun x v => Host.reduce IntOp.andi x v reducesTo_S8192x1_S8192_d1 h_S_),
    TRef.binary (TRef.of (T := ⟨S1024x256, .f32⟩) main_arg1) (TRef.of (T := ⟨S8192x1, .i32⟩) main_call1_v5) (TRef.of (T := ⟨S8192x256, .f32⟩) main_call1_v13) (fun x i => Host.gather gather_S1024x256_S8192x1_S8192x256_1_0_n_n_0_1_1256 x i),
    TRef.unary (TRef.of (T := ⟨S8192, .i1⟩) main_call1_v12) (TRef.of (T := ⟨S8192x256, .i1⟩) main_call1_v14) (broadcastInDim S8192x256 ![0] bcast_S8192_S8192x256_0),
    TRef.nullary (TRef.of (T := ⟨S_, .f32⟩) main_call1_cst) (constant S_ .f32 0x7FC00000#32),
    TRef.unary (TRef.of (T := ⟨S_, .f32⟩) main_call1_cst) (TRef.of (T := ⟨S8192x256, .f32⟩) main_call1_v15) (broadcastInDim S8192x256 ![] bcast_S_S8192x256),
    TRef.ternary (TRef.of (T := ⟨S8192x256, .i1⟩) main_call1_v14) (TRef.of (T := ⟨S8192x256, .f32⟩) main_call1_v13) (TRef.of (T := ⟨S8192x256, .f32⟩) main_call1_v15) (TRef.of (T := ⟨S8192x256, .f32⟩) main_v17) select,
    reshape main_v17 main_v18 (rfl : (.f32 : EltTy) = .f32) shapeCasts_S8192x256_S8x32x32x256,
    binary main_v18 main_v0 main_v19 (subf : (⟨S8x32x32x256, .f32⟩ : BufTy).Contents (Elt F) → (⟨S8x32x32x256, .f32⟩ : BufTy).Contents (Elt F) → (⟨S8x32x32x256, .f32⟩ : BufTy).Contents (Elt F)),
    binary main_v19 main_v19 main_v20 (mulf : (⟨S8x32x32x256, .f32⟩ : BufTy).Contents (Elt F) → (⟨S8x32x32x256, .f32⟩ : BufTy).Contents (Elt F) → (⟨S8x32x32x256, .f32⟩ : BufTy).Contents (Elt F)),
    nullary main_cst_2 (constant S_ .f32 0x00000000#32),
    binary main_v20 main_cst_2 main_v21 ((fun x v => Host.reduceAdd x v reducesTo_S8x32x32x256_S_d0_1_2_3 h_S_) : (⟨S8x32x32x256, .f32⟩ : BufTy).Contents (Elt F) → (⟨S_, .f32⟩ : BufTy).Contents (Elt F) → (⟨S_, .f32⟩ : BufTy).Contents (Elt F)),
    nullary main_cst_3 (constant S_ .f32 0x4A000000#32),
    binary main_v21 main_cst_3 main_v22 (Host.divf : (⟨S_, .f32⟩ : BufTy).Contents (Elt F) → (⟨S_, .f32⟩ : BufTy).Contents (Elt F) → (⟨S_, .f32⟩ : BufTy).Contents (Elt F)),
    binary main_v0 main_v18 main_v23 (subf : (⟨S8x32x32x256, .f32⟩ : BufTy).Contents (Elt F) → (⟨S8x32x32x256, .f32⟩ : BufTy).Contents (Elt F) → (⟨S8x32x32x256, .f32⟩ : BufTy).Contents (Elt F)),
    binary main_v23 main_v23 main_v24 (mulf : (⟨S8x32x32x256, .f32⟩ : BufTy).Contents (Elt F) → (⟨S8x32x32x256, .f32⟩ : BufTy).Contents (Elt F) → (⟨S8x32x32x256, .f32⟩ : BufTy).Contents (Elt F)),
    nullary main_cst_4 (constant S_ .f32 0x00000000#32),
    binary main_v24 main_cst_4 main_v25 ((fun x v => Host.reduceAdd x v reducesTo_S8x32x32x256_S_d0_1_2_3 h_S_) : (⟨S8x32x32x256, .f32⟩ : BufTy).Contents (Elt F) → (⟨S_, .f32⟩ : BufTy).Contents (Elt F) → (⟨S_, .f32⟩ : BufTy).Contents (Elt F)),
    nullary main_cst_5 (constant S_ .f32 0x4A000000#32),
    binary main_v25 main_cst_5 main_v26 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v26 main_v27 (mulf : (⟨S_, .f32⟩ : BufTy).Contents (Elt F) → (⟨S_, .f32⟩ : BufTy).Contents (Elt F) → (⟨S_, .f32⟩ : BufTy).Contents (Elt F)),
    binary main_v22 main_v27 main_v28 (subf : (⟨S_, .f32⟩ : BufTy).Contents (Elt F) → (⟨S_, .f32⟩ : BufTy).Contents (Elt F) → (⟨S_, .f32⟩ : BufTy).Contents (Elt F)),
    binary main_v18 main_v0 main_v29 (subf : (⟨S8x32x32x256, .f32⟩ : BufTy).Contents (Elt F) → (⟨S8x32x32x256, .f32⟩ : BufTy).Contents (Elt F) → (⟨S8x32x32x256, .f32⟩ : BufTy).Contents (Elt F)),
    binary main_v0 main_v29 main_v30 (addf : (⟨S8x32x32x256, .f32⟩ : BufTy).Contents (Elt F) → (⟨S8x32x32x256, .f32⟩ : BufTy).Contents (Elt F) → (⟨S8x32x32x256, .f32⟩ : BufTy).Contents (Elt F)),
    unary main_v30 main_v31 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)) ]

set_option maxRecDepth 8192 in
set_option maxHeartbeats 4000000 in
/-- The reference is that list run in order. -/
theorem main_line (c : Dev nD) : main (F := F) c = seq line := rfl

theorem no_scoped_refs : (Finset.univ.filter fun b : Ref sig .tc => b.isScoped) = ∅ := by decide
theorem no_scoped_sems : (Finset.univ.filter fun sm : SemLoc sig => sm.isScoped .tc) = ∅ := by decide

set_option maxRecDepth 8192 in
/-- Every operation touches the arrays only. -/
theorem line_sub : (line : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., unary_bufs_sub ..⟩

/-- The image with its channels moved last. -/
def moved (z : FVec F S8x256x32x32 .f32) : FVec F S8x32x32x256 .f32 :=
  transpose S8x32x32x256 [0, 2, 3, 1] z transposes_S8x256x32x32_S8x32x32x256_0_2_3_1

/-- The vectors, one a row. -/
def rows (z : FVec F S8x256x32x32 .f32) : FVec F S8192x256 .f32 :=
  shapeCast S8192x256 (moved z) shapeCasts_S8x32x32x256_S8192x256

/-- The table of distances: a row for a vector, a column for a code. -/
def table (z : FVec F S8x256x32x32 .f32) (cb : FVec F S1024x256 .f32) : FVec F S8192x1024 .f32 :=
  subf
    (addf
      (broadcastInDim S8192x1024 ![0, 1] bcast_S8192x1_S8192x1024_0_1 (broadcastInDim S8192x1 ![0] bcast_S8192_S8192x1_0
        (Host.reduceAdd (mulf (rows z) (rows z)) (constant S_ .f32 0x00000000#32) reducesTo_S8192x256_S8192_d1 h_S_)))
      (broadcastInDim S8192x1024 ![0, 1] bcast_S1x1024_S8192x1024_0_1 (broadcastInDim S1x1024 ![1] bcast_S1024_S1x1024_1
        (Host.reduceAdd (mulf cb cb) (constant S_ .f32 0x00000000#32) reducesTo_S1024x256_S1024_d1 h_S_))))
    (mulf (broadcastInDim S8192x1024 ![] bcast_S_S8192x1024 (constant S_ .f32 0x40000000#32))
      (Host.dotGeneral dot_S8192x256_S256x1024_S8192x1024_1_0_0_1_n_n none (rows z)
        (transpose S256x1024 [1, 0] cb transposes_S1024x256_S256x1024_1_0)))

/-- The number of each row's least entry. -/
def argmin (d : FVec F S8192x1024 .f32) : IVec S8192 32 := fun j =>
  (Host.argReduce reducer_argmin_f32_i32 d (iotaInDim S8192x1024 32 1) (constant S_ .f32 0x7F800000#32) (constantI S_ 32 0#32)
    reducesTo_S8192x1024_S8192_d1 h_S_ j).2

/-- The row numbers, a negative one counted from the end. -/
def wrapped (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 1024#32))) idx)

/-- Whether each row number is one of the table's. -/
def inside (w : IVec S8192x1 32) : IVec S8192 1 :=
  Host.reduce IntOp.andi
    (andi (cmpi .sge w (broadcastInDim S8192x1 ![] bcast_S_S8192x1 (constantI S_ 32 0#32)))
      (cmpi .sle w (broadcastInDim S8192x1 ![0, 1] bcast_S1x1_S8192x1_0_1 (broadcastInDim S1x1 ![1] bcast_S1_S1x1_1 (constantI S1 32 1023#32)))))
    (constantI S_ 1 1#1) reducesTo_S8192x1_S8192_d1 h_S_

/-- The rows of the codebook at the row numbers, with the filler where a number is out of range. -/
def taken (cb : FVec F S1024x256 .f32) (idx : IVec S8192 32) : FVec F S8192x256 .f32 :=
  select (broadcastInDim S8192x256 ![0] bcast_S8192_S8192x256_0 (inside (wrapped idx)))
    (Host.gather gather_S1024x256_S8192x1_S8192x256_1_0_n_n_0_1_1256 cb (wrapped idx))
    (broadcastInDim S8192x256 ![] bcast_S_S8192x256 (constant S_ .f32 0x7FC00000#32))

/-- The codes taken, laid out as the moved image is. -/
def chosen (z : FVec F S8x256x32x32 .f32) (cb : FVec F S1024x256 .f32) : FVec F S8x32x32x256 .f32 :=
  shapeCast S8x32x32x256 (taken cb (argmin (table z cb))) shapeCasts_S8192x256_S8x32x32x256

/-- The reference's first result from its arguments. -/
def result0 (z : FVec F S8x256x32x32 .f32) (cb : FVec F S1024x256 .f32) : FVec F S8x256x32x32 .f32 :=
  transpose S8x256x32x32 [0, 3, 1, 2] (addf (moved z) (subf (chosen z cb) (moved z))) transposes_S8x32x32x256_S8x256x32x32_0_3_1_2

/-- The mean of the squares of an array's entries. -/
def meanSquare (d : FVec F S8x32x32x256 .f32) : FVec F S_ .f32 :=
  Host.divf (Host.reduceAdd (mulf d d) (constant S_ .f32 0x00000000#32) reducesTo_S8x32x32x256_S_d0_1_2_3 h_S_) (constant S_ .f32 0x4A000000#32)

/-- The reference's third result from its arguments. -/
def result2 (z : FVec F S8x256x32x32 .f32) (cb : FVec F S1024x256 .f32) : FVec F S_ .f32 :=
  subf (meanSquare (subf (chosen z cb) (moved z)))
    (mulf (constant S_ .f32 0x3E800000#32) (meanSquare (subf (moved z) (chosen z cb))))

set_option maxRecDepth 8192 in
set_option maxHeartbeats 27200000 in
/-- Every execution of the reference ends with its results at those values of its arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = result0 (m ((c.tc : Thread nD τ).loc main_arg0)) (m ((c.tc : Thread nD τ).loc main_arg1))
      ∧ r.2.mem ((c.tc : Thread nD τ).loc main_v16)
          = argmin (table (m ((c.tc : Thread nD τ).loc main_arg0)) (m ((c.tc : Thread nD τ).loc main_arg1)))
      ∧ r.2.mem ((c.tc : Thread nD τ).loc main_v28)
          = result2 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v31).trans (by simp only [line, TRef.binary, TRef.nullary, TRef.ternary, TRef.quaternary, TRef.unary, TRef.toBuf, TRef.ofBuf, cast_eq]; after_results_simp <;> rfl),
      (h c main_v16).trans (by simp only [line, TRef.binary, TRef.nullary, TRef.ternary, TRef.quaternary, TRef.unary, TRef.toBuf, TRef.ofBuf, cast_eq]; after_results_simp <;> rfl),
      (h c main_v28).trans (by simp only [line, TRef.binary, TRef.nullary, TRef.ternary, TRef.quaternary, TRef.unary, TRef.toBuf, TRef.ofBuf, cast_eq]; after_results_simp <;> rfl),
      (h c main_arg0).trans (by simp only [line, TRef.binary, TRef.nullary, TRef.ternary, TRef.quaternary, TRef.unary, TRef.toBuf, TRef.ofBuf, cast_eq]; after_results_simp <;> rfl),
      (h c main_arg1).trans (by simp only [line, TRef.binary, TRef.nullary, TRef.ternary, TRef.quaternary, TRef.unary, TRef.toBuf, TRef.ofBuf, cast_eq]; after_results_simp <;> rfl)⟩)
    (run_seq no_scoped_refs no_scoped_sems defs main (fun _ => line) main_line (fun _ => line_sub) m ρ)

/-- The reference changes neither argument, and leaves no counter up: it has none. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2.2, sem_eq_zero_of_no_sems rfl r.2⟩) (run m ρ)

end Cert.ReferenceIdeal.Line

end
-- ==== Proof.ArgMin.lean ====
/- The reference's arg-min: the fold of its reducer over a row ends at the row's first least entry. -/
module

public import proofs.«01_k».proof.Proof.RefRun
public import proofs.«01_k».proof.Proof.Block

@[expose] public section

set_option maxRecDepth 16384

noncomputable section

namespace Cert.ReferenceIdeal.Line

open Cert.ReferenceIdeal Cert.ReferenceIdeal.Gen Idealize.ShloMosaic Cert.Vq

/-- One step of the arg-min: the pair of lesser value, at equal values the lesser number. -/
theorem reducer_eq (x y : EReal) (i j : BitVec 32) : reducer_argmin_f32_i32 (F := Ideal) (x, i) (y, j)
    = (if x < y then x else y, if x < y ∨ (x = y ∧ i.toInt < j.toInt) then i else j) := by
  unfold reducer_argmin_f32_i32
  simp only [Ideal.cmpf_def, Ideal.cmp]
  have hs : IntOp.cmpi .slt i j = BitVec.ofBool (decide (i.toInt < j.toInt)) := rfl
  rw [hs]
  by_cases h1 : x < y
  · have h2 : x ≠ y := h1.ne
    simp [h1, h2, Scalar.select, IntOp.ori, IntOp.andi]
  · by_cases h2 : x = y
    · by_cases h3 : i.toInt < j.toInt
      · simp [h2, h3, Scalar.select, IntOp.ori, IntOp.andi]
      · simp [h2, h3, Scalar.select, IntOp.ori, IntOp.andi]
    · simp [h1, h2, Scalar.select, IntOp.ori, IntOp.andi]

variable (f : Fin 1024 → EReal)

/-- A row's entry with its number. -/
def entry (k : Fin 1024) : EReal × BitVec 32 := (f k, BitVec.ofNat 32 k.val)

/-- What the fold can be at: its start, or an entry. -/
def Reached (a : EReal × BitVec 32) : Prop := a = (⊤, 0#32) ∨ ∃ k, a = entry f k

/-- A step from what the fold can be at to an entry stays among those. -/
theorem reached_step {a : EReal × BitVec 32} (ha : Reached f a) (k : Fin 1024) :
    Reached f (reducer_argmin_f32_i32 (F := Ideal) a (entry f k)) := by
  obtain ⟨x, i⟩ := a
  show Reached f (reducer_argmin_f32_i32 (F := Ideal) (x, i) (f k, BitVec.ofNat 32 k.val))
  rw [reducer_eq]
  by_cases h1 : x < f k
  · rw [if_pos h1, if_pos (Or.inl h1)]; exact ha
  · by_cases h2 : x = f k ∧ i.toInt < (BitVec.ofNat 32 k.val).toInt
    · rw [if_neg h1, if_pos (Or.inr h2), ← h2.1]; exact ha
    · rw [if_neg h1, if_neg (by rintro (h | h); exacts [h1 h, h2 h])]
      exact Or.inr ⟨k, rfl⟩

/-- At the first least entry a step stays. -/
theorem step_stays {k0 : Fin 1024} (h0 : IsFirst f k0) (k : Fin 1024) :
    reducer_argmin_f32_i32 (F := Ideal) (entry f k0) (entry f k) = entry f k0 := by
  show reducer_argmin_f32_i32 (F := Ideal) (f k0, BitVec.ofNat 32 k0.val) (f k, BitVec.ofNat 32 k.val) = (f k0, BitVec.ofNat 32 k0.val)
  rw [reducer_eq, toInt_code, toInt_code]
  rcases lt_or_eq_of_le (h0.1 k) with h1 | h1
  · rw [if_pos h1, if_pos (Or.inl h1)]
  · rw [if_neg (by rw [← h1]; exact lt_irrefl _), ← h1]
    by_cases h2 : k0 < k
    · rw [if_pos (Or.inr ⟨rfl, by have : k0.val < k.val := h2; omega⟩)]
    · have h3 : k = k0 := by
        rcases lt_or_eq_of_le (not_lt.1 h2) with h4 | h4
        · exact absurd (h0.2 k h4) (by rw [h1]; exact lt_irrefl _)
        · exact h4
      rw [h3, ite_self]

/-- A step to the first least entry arrives there. -/
theorem step_arrives {k0 : Fin 1024} (h0 : IsFirst f k0) {a : EReal × BitVec 32} (ha : Reached f a) :
    reducer_argmin_f32_i32 (F := Ideal) a (entry f k0) = entry f k0 := by
  rcases ha with rfl | ⟨k, rfl⟩
  · show reducer_argmin_f32_i32 (F := Ideal) (⊤, 0#32) (f k0, BitVec.ofNat 32 k0.val) = (f k0, BitVec.ofNat 32 k0.val)
    rw [reducer_eq, toInt_code]
    have h1 : ¬ (⊤ : EReal) < f k0 := not_top_lt
    rw [if_neg h1, if_neg ?_]
    rintro (h | ⟨h, h'⟩)
    · exact h1 h
    · have h2 : (0 : Fin 1024) < k0 := by
        rw [Fin.lt_def]
        have : (0#32 : BitVec 32).toInt = 0 := by decide
        rw [this] at h'
        show 0 < k0.val
        omega
      exact absurd (h0.2 0 h2) (by rw [← h]; exact not_top_lt)
  · show reducer_argmin_f32_i32 (F := Ideal) (f k, BitVec.ofNat 32 k.val) (f k0, BitVec.ofNat 32 k0.val) = (f k0, BitVec.ofNat 32 k0.val)
    rw [reducer_eq, toInt_code, toInt_code]
    rw [if_neg (not_lt.2 (h0.1 k)), if_neg ?_]
    rintro (h | ⟨h, h'⟩)
    · exact absurd h (not_lt.2 (h0.1 k))
    · exact absurd (h0.2 k (by rw [Fin.lt_def]; omega)) (by rw [h]; exact lt_irrefl _)

/-- The fold over entries, the first least one among them or already reached, ends at it. -/
theorem fold_entries {k0 : Fin 1024} (h0 : IsFirst f k0) (l : List (EReal × BitVec 32)) (hl : ∀ p ∈ l, ∃ k, p = entry f k) :
    ∀ a, Reached f a → (a = entry f k0 ∨ entry f k0 ∈ l) →
      l.foldl (reducer_argmin_f32_i32 (F := Ideal)) a = entry f k0 := by
  induction l with
  | nil => intro a _ h; simpa using h
  | cons p l ih =>
    intro a ha h
    obtain ⟨k, rfl⟩ := hl p (List.mem_cons_self ..)
    rw [List.foldl_cons]
    refine ih (fun q hq => hl q (List.mem_cons_of_mem _ hq)) _ (reached_step f ha k) ?_
    rcases h with rfl | h
    · exact Or.inl (step_stays f h0 k)
    · rcases List.mem_cons.1 h with h | h
      · rw [← h]; exact Or.inl (step_arrives f h0 ha)
      · exact Or.inr h

/-- The fold over a fiber of a reduction whose pairs are the row's entries, each there, ends at the first least one. -/
theorem fold_fiber {s t : Shape} {axes : List (Fin s.rank)} (x : s.Idx → EReal) (y : s.Idx → BitVec 32) (h : s.ReducesTo axes t)
    (j : t.Idx) (at_ : Fin 1024 → s.Idx) (hat : ∀ i, h.drop i = j ↔ ∃ k, at_ k = i) (hent : ∀ k, (x (at_ k), y (at_ k)) = entry f k) :
    (Host.argReduceFiber x y h j).foldl (reducer_argmin_f32_i32 (F := Ideal)) (⊤, 0#32) = entry f (first f) := by
  refine fold_entries f (first_spec f) _ ?_ _ (Or.inl rfl) (Or.inr ?_)
  · intro p hp
    unfold Host.argReduceFiber at hp
    obtain ⟨q, hq, rfl⟩ := List.mem_map.1 hp
    obtain ⟨k, hk⟩ := (hat _).1 (of_decide_eq_true (List.mem_filter.1 hq).2)
    exact ⟨k, by rw [← hk]; exact hent k⟩
  · unfold Host.argReduceFiber
    refine List.mem_map.2 ⟨s.rowMajor (at_ (first f)), List.mem_filter.2 ⟨List.mem_finRange _, ?_⟩, ?_⟩
    · refine decide_eq_true ?_
      rw [Equiv.symm_apply_apply]
      exact (hat _).2 ⟨_, rfl⟩
    · rw [Equiv.symm_apply_apply]
      exact hent _

/-- A row's entry with the column's number, as the reference pairs them. -/
theorem pair_eq (d : FVec Ideal S8192x1024 .f32) (n : Fin 8192) (k : Fin 1024) :
    (d (ix2 n k), iotaInDim S8192x1024 32 1 (ix2 n k)) = entry (fun k => d (ix2 n k)) k := by
  unfold entry
  pointwise

/-- The indices of a row. -/
theorem row_fiber (n : Fin 8192) (i : S8192x1024.Idx) :
    reducesTo_S8192x1024_S8192_d1.drop i = (ix1 n : S8192.Idx) ↔ ∃ k : Fin 1024, ix2 n k = i :=
  reducesTo_S8192x1024_S8192_d1.fiber_r2_a1 (ix1 n : S8192.Idx) i

/-- The fold over a row ends at its first least entry. -/
theorem fold_row (d : FVec Ideal S8192x1024 .f32) (n : Fin 8192) :
    (Host.argReduceFiber d (iotaInDim S8192x1024 32 1) reducesTo_S8192x1024_S8192_d1 (ix1 n : S8192.Idx)).foldl
      (reducer_argmin_f32_i32 (F := Ideal)) (⊤, 0#32) = entry (fun k => d (ix2 n k)) (first fun k => d (ix2 n k)) :=
  fold_fiber (fun k => d (ix2 n k)) d (iotaInDim S8192x1024 32 1) reducesTo_S8192x1024_S8192_d1 (ix1 n : S8192.Idx)
    (fun k => ix2 n k) (row_fiber n) (pair_eq d n)

/-- The two-operand reduction by the reducer from `(⊤, 0)` is the fold over the fiber. -/
theorem argReduce_fold {s t u : Shape} {axes : List (Fin s.rank)} (x : FVec Ideal s .f32) (y : IVec s 32) (ix : FVec Ideal u .f32) (iy : IVec u 32)
    (h : s.ReducesTo axes t) (hu : 0 < u.numel) (hx : ∀ i, ix i = (⊤ : EReal)) (hy : ∀ i, iy i = 0#32) (j : t.Idx) :
    Host.argReduce (reducer_argmin_f32_i32 (F := Ideal)) x y ix iy h hu j
      = (Host.argReduceFiber x y h j).foldl (reducer_argmin_f32_i32 (F := Ideal)) (⊤, 0#32) := by
  rw [Ideal.argReduce_eq_reduce2, Host.reduce2_eq_foldl_fiber, hx, hy]

/-- The reduction's starting value is `⊤`. -/
theorem start_top (i : S_.Idx) : (constant (F := Ideal) S_ .f32 0x7F800000#32) i = (⊤ : EReal) := by
  pointwise
  exact KernelIdeal.Block.ofBits_top

/-- The reduction's starting number is zero. -/
theorem start_zero (i : S_.Idx) : (constantI S_ 32 0#32) i = 0#32 := by
  pointwise

/-- The reduction the reference runs over a row is the fold over the row. -/
theorem argReduce_row (d : FVec Ideal S8192x1024 .f32) (n : Fin 8192) :
    Host.argReduce (reducer_argmin_f32_i32 (F := Ideal)) d (iotaInDim S8192x1024 32 1) (constant (F := Ideal) S_ .f32 0x7F800000#32)
      (constantI S_ 32 0#32) reducesTo_S8192x1024_S8192_d1 h_S_ (ix1 n : S8192.Idx)
      = entry (fun k => d (ix2 n k)) (first fun k => d (ix2 n k)) :=
  (argReduce_fold d (iotaInDim S8192x1024 32 1) (constant (F := Ideal) S_ .f32 0x7F800000#32) (constantI S_ 32 0#32)
    reducesTo_S8192x1024_S8192_d1 h_S_ start_top start_zero (ix1 n : S8192.Idx)).trans (fold_row d n)

/-- The number an entry is paired with. -/
theorem entry_snd (k : Fin 1024) : (entry f k).2 = BitVec.ofNat 32 k.val := by unfold entry; rfl

/-- The reference's answer as a function of the array, its definition written out. -/
theorem argmin_fun : argmin (F := Ideal) = fun d j =>
    (Host.argReduce (reducer_argmin_f32_i32 (F := Ideal)) d (iotaInDim S8192x1024 32 1)
      (constant S_ .f32 0x7F800000#32) (constantI S_ 32 0#32)
      reducesTo_S8192x1024_S8192_d1 h_S_ j).2 := rfl

/-- The reference's answer for a row is the number of the first least entry of the row. -/
theorem argmin_apply (d : FVec Ideal S8192x1024 .f32) (n : Fin 8192) :
    argmin (F := Ideal) d (ix1 n) = BitVec.ofNat 32 (first fun k => d (ix2 n k)).val :=
  (congrFun (congrFun argmin_fun d) (ix1 n)).trans
    ((congrArg Prod.snd (argReduce_row d n)).trans (entry_snd _ _))

end Cert.ReferenceIdeal.Line

end
-- ==== Proof.RefValue.lean ====
/- What the reference computes, at an index. -/
module

public import proofs.«01_k».proof.Proof.ArgMin
public import Idealize.ShloMosaic.Lib.Routing.Ops

@[expose] public section

set_option maxRecDepth 16384

noncomputable section

namespace Cert.ReferenceIdeal.Line

open Cert.ReferenceIdeal Cert.ReferenceIdeal.Gen Idealize.ShloMosaic Cert.Vq

variable (z : FVec Ideal S8x256x32x32 .f32) (cb : FVec Ideal S1024x256 .f32)

/-- The moved image's entry. -/
theorem moved_apply (b : Fin 8) (h w : Fin 32) (k : Fin 256) : moved (F := Ideal) z (ix4 b h w k) = z (ix4 b k h w) := by
  pointwise [moved]

/-- The image of a row. -/
abbrev imageOf (n : Fin 8192) : Fin 8 := ⟨n.val / 1024, by have := n.isLt; omega⟩
/-- The pixel of a row. -/
abbrev pixelOf (n : Fin 8192) : Fin 1024 := ⟨n.val % 1024, Nat.mod_lt _ (by decide)⟩

/-- The table's entry is the distance of the row's vector to the column's code. -/
theorem table_apply (n : Fin 8192) (k : Fin 1024) :
    table (F := Ideal) z cb (ix2 n k) = dists z cb (imageOf n) (pixelOf n) k := by
  pointwise [table, rows, moved]
  have e : (⟨n.val / 32 % 32, Nat.mod_lt _ (by decide)⟩ : Fin 32) = ⟨n.val % 1024 / 32, by omega⟩ := Fin.ext (by show n.val / 32 % 32 = n.val % 1024 / 32; omega)
  have e' : (⟨n.val % 32, Nat.mod_lt _ (by decide)⟩ : Fin 32) = ⟨n.val % 1024 % 32, Nat.mod_lt _ (by decide)⟩ := Fin.ext (by show n.val % 32 = n.val % 1024 % 32; omega)
  have hz : ∀ c : Fin 256, z (ix4 (imageOf n) c (⟨n.val / 32 % 32, Nat.mod_lt _ (by decide)⟩ : Fin 32) (⟨n.val % 32, Nat.mod_lt _ (by decide)⟩ : Fin 32))
      = vec z (imageOf n) (pixelOf n) c := fun c => congrArg₂ (fun a b : Fin 32 => z (ix4 (imageOf n) c a b)) e e'
  show ((∑ c : Fin 256, z (ix4 (imageOf n) c (⟨n.val / 32 % 32, Nat.mod_lt _ (by decide)⟩ : Fin 32) (⟨n.val % 32, Nat.mod_lt _ (by decide)⟩ : Fin 32))
        * z (ix4 (imageOf n) c (⟨n.val / 32 % 32, Nat.mod_lt _ (by decide)⟩ : Fin 32) (⟨n.val % 32, Nat.mod_lt _ (by decide)⟩ : Fin 32)))
      + ∑ c : Fin 256, cb (ix2 k c) * cb (ix2 k c))
      - Ideal.ofBits .f32 0x40000000#32
        * ∑ c : Fin 256, z (ix4 (imageOf n) c (⟨n.val / 32 % 32, Nat.mod_lt _ (by decide)⟩ : Fin 32) (⟨n.val % 32, Nat.mod_lt _ (by decide)⟩ : Fin 32)) * cb (ix2 k c) = _
  simp only [hz, KernelIdeal.Block.ofBits_two]
  rfl

/-- The row's arg-min is the number of its first nearest code. -/
theorem argmin_table (n : Fin 8192) :
    argmin (F := Ideal) (table z cb) (ix1 n) = BitVec.ofNat 32 (near z cb (imageOf n) (pixelOf n)).val := by
  rw [argmin_apply]
  simp only [table_apply]
  rfl

/-- The reference's second result is the codes' numbers. -/
theorem result1_eq : argmin (F := Ideal) (table z cb) = numbers z cb := by
  funext i
  obtain ⟨n, rfl⟩ : ∃ n : Fin 8192, i = (ix1 n : S8192.Idx) := ⟨_, eq_ix1 (n0 := 8192) i⟩
  rw [argmin_table]
  rfl

/-- A code's number is kept by the wrapping. -/
theorem wrapped_apply (idx : IVec S8192 32) (n : Fin 8192) (k : Fin 1024) (h : idx (ix1 n) = BitVec.ofNat 32 k.val) :
    wrapped idx (ix2 n 0) = BitVec.ofNat 32 k.val := by
  pointwise [wrapped]
  rw [h]
  have : IntOp.cmpi .slt (BitVec.ofNat 32 k.val) 0#32 = 0#1 := by
    have h0 : (0#32 : BitVec 32).toInt = 0 := by decide
    rw [IntOp.cmpi, BitVec.slt, toInt_code, h0, decide_eq_false (by omega)]
    rfl
  rw [this]
  rfl

/-- A code's number is inside the table. -/
theorem inside_apply (w : IVec S8192x1 32) (n : Fin 8192) (k : Fin 1024) (h : w (ix2 n 0) = BitVec.ofNat 32 k.val) :
    inside w (ix1 n) = 1#1 := by
  pointwise [inside]
  have h0 : (0#32 : BitVec 32).toInt = 0 := by decide
  have h1 : (1023#32 : BitVec 32).toInt = 1023 := by decide
  have hk := k.isLt
  have e1 : IntOp.cmpi .sge (BitVec.ofNat 32 k.val) 0#32 = 1#1 := by
    simp [IntOp.cmpi, BitVec.sle, toInt_code, h0]
  have e2 : IntOp.cmpi .sle (BitVec.ofNat 32 k.val) 1023#32 = 1#1 := by
    have : (k.val : Int) ≤ 1023 := by omega
    simp [IntOp.cmpi, BitVec.sle, toInt_code, h1, this]
  rw [Finset.univ_unique, Finset.fold_singleton]
  have e3 : (default : Fin 1) = 0 := rfl
  rw [e3, h, e1, e2]
  rfl

/-- The taking at a code's number gives the code. -/
theorem taken_apply (idx : IVec S8192 32) (n : Fin 8192) (k : Fin 1024) (h : idx (ix1 n) = BitVec.ofNat 32 k.val) (j : Fin 256) :
    taken (F := Ideal) cb idx (ix2 n j) = codes cb k j := by
  pointwise [taken]
  rw [inside_apply _ n k (wrapped_apply idx n k h)]
  exact Routing.gather_row gather_S1024x256_S8192x1_S8192x256_1_0_n_n_0_1_1256 rfl rfl rfl rfl rfl cb (wrapped idx) n j k
    (wrapped_apply idx n k h) (by decide)

/-- The chosen code's entry. -/
theorem chosen_apply (b : Fin 8) (h w : Fin 32) (j : Fin 256) :
    chosen (F := Ideal) z cb (ix4 b h w j) = codes cb (near z cb b (pixel h w)) j := by
  pointwise [chosen]
  rw [taken_apply _ _ _ _ (argmin_table z cb _)]
  have hb := b.isLt; have hh := h.isLt; have hw := w.isLt
  congr 2
  · apply Fin.ext; dsimp only; omega
  · apply Fin.ext; simp only [pixel]; omega

/-- The mean of the squares, as a sum over the axes. -/
theorem meanSquare_apply (d : FVec Ideal S8x32x32x256 .f32) (i : S_.Idx) :
    meanSquare (F := Ideal) d i
      = Ideal.div (∑ b : Fin 8, ∑ h : Fin 32, ∑ w : Fin 32, ∑ j : Fin 256, d (ix4 b h w j) * d (ix4 b h w j)) (Ideal.ofBits .f32 0x4A000000#32) := by
  pointwise [meanSquare]
  rw [Ideal.hostReduceAdd_total _ (fun b => b.elim0), zero_add, sum_idx4]
  rfl

end Cert.ReferenceIdeal.Line

end
-- ==== Proof.Finite.lean ====
/- The laws of the quantizer that hold at finite numbers. -/
module

public import proofs.«01_k».proof.Pre_finite
public import proofs.«01_k».proof.Proof.Block

@[expose] public section

noncomputable section

namespace Cert.Vq

open Idealize.ShloMosaic

/-- A finite sum of real numbers is the same sum among the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- At real numbers the distance is the sum of the squares of the differences. -/
theorem dist_real (x : Fin 256 → ℝ) (q : Fin 1024 → Fin 256 → ℝ) (k : Fin 1024) :
    dist (fun c => (x c : EReal)) (fun k c => (q k c : EReal)) k = ((∑ c, (q k c - x c) * (q k c - x c) : ℝ) : EReal) := by
  have h2 : (2 : EReal) = ((2 : ℝ) : EReal) := rfl
  unfold dist
  simp only [← EReal.coe_mul, ← coe_sum, h2, ← EReal.coe_add, ← EReal.coe_sub]
  congr 1
  rw [Finset.mul_sum, ← Finset.sum_add_distrib, ← Finset.sum_sub_distrib]
  exact Finset.sum_congr rfl fun c _ => by ring

/-- The float word of the number of entries. -/
theorem ofBits_entries : Ideal.ofBits .f32 0x4A000000#32 = ((2097152 : ℝ) : EReal) := by
  simp [Ideal.ofBits, Ideal.ieee, -EReal.coe_mul]; norm_num

/-- The float word of a quarter. -/
theorem ofBits_quarter : Ideal.ofBits .f32 0x3E800000#32 = ((1 / 4 : ℝ) : EReal) := by
  simp [Ideal.ofBits, Ideal.ieee, -EReal.coe_mul]; norm_num

/-- The float word of three quarters. -/
theorem ofBits_threeQuarters : Ideal.ofBits .f32 0x3F400000#32 = ((3 / 4 : ℝ) : EReal) := by
  simp [Ideal.ofBits, Ideal.ieee, -EReal.coe_mul]; norm_num

/-- An extended real whose magnitude is below plus infinity is a real number. -/
theorem real_of_abs (a : EReal) (h : max a (-a) < ⊤) : ∃ r : ℝ, a = (r : EReal) := by
  induction a with
  | bot => simp at h
  | top => simp at h
  | coe r => exact ⟨r, rfl⟩

/-- The shapes the precondition spreads its constant over. -/
theorem finite_facts : Cert.Pre_finite.Facts := ⟨⟨by decide, by decide⟩, ⟨by decide, by decide⟩⟩

/-- Under the precondition every entry of both arrays is a real number. -/
theorem reals_of_finite [Cert.Pre_finite.Facts] (z : FVec Ideal ⟨4, ![8, 256, 32, 32]⟩ .f32) (cb : FVec Ideal ⟨2, ![1024, 256]⟩ .f32)
    (h : (Cert.Pre_finite.fn (F := Ideal) z cb).1 = (fun _ => 1#1) ∧ (Cert.Pre_finite.fn (F := Ideal) z cb).2 = (fun _ => 1#1)) :
    ∃ (x : (⟨4, ![8, 256, 32, 32]⟩ : Shape).Idx → ℝ) (q : (⟨2, ![1024, 256]⟩ : Shape).Idx → ℝ),
      z = (fun i => (x i : EReal)) ∧ cb = (fun i => (q i : EReal)) := by
  have key : ∀ a : EReal, Ideal.cmp .olt (max a (-a)) (Ideal.ofBits .f32 0x7F800000#32) = 1#1 → ∃ r : ℝ, a = (r : EReal) := by
    intro a ha
    apply real_of_abs
    rw [KernelIdeal.Block.ofBits_top] at ha
    by_contra hn
    simp [Ideal.cmp, hn] at ha
  have h1 : ∀ i, ∃ r : ℝ, z i = (r : EReal) := fun i => key _ (congrFun h.1 i)
  have h2 : ∀ i, ∃ r : ℝ, cb i = (r : EReal) := fun i => key _ (congrFun h.2 i)
  choose x hx using h1
  choose q hq using h2
  exact ⟨x, q, funext hx, funext hq⟩

end Cert.Vq

end
-- ==== Proof.Equation.lean ====
/- At finite arguments the reference's results are the quantizer's. -/
module

public import proofs.«01_k».proof.Proof.RefValue
public import proofs.«01_k».proof.Proof.Finite

@[expose] public section

set_option maxRecDepth 16384

noncomputable section

namespace Cert.ReferenceIdeal.Line

open Cert.ReferenceIdeal Cert.ReferenceIdeal.Gen Idealize.ShloMosaic Cert.Vq

/-- A pixel's row. -/
abbrev rowOf (p : Fin 1024) : Fin 32 := ⟨p.val / 32, by have := p.isLt; omega⟩
/-- A pixel's column. -/
abbrev colOf (p : Fin 1024) : Fin 32 := ⟨p.val % 32, Nat.mod_lt _ (by decide)⟩

/-- The row of a pixel number. -/
theorem rowOf_pixel (h w : Fin 32) : rowOf (pixel h w) = h :=
  Fin.ext (by have := h.isLt; have := w.isLt; show (h.val * 32 + w.val) / 32 = h.val; omega)

/-- The column of a pixel number. -/
theorem colOf_pixel (h w : Fin 32) : colOf (pixel h w) = w :=
  Fin.ext (by have := h.isLt; have := w.isLt; show (h.val * 32 + w.val) % 32 = w.val; omega)

/-- The pixel number of a pixel's row and column. -/
theorem pixel_rowOf (p : Fin 1024) : pixel (rowOf p) (colOf p) = p :=
  Fin.ext (by have := p.isLt; show p.val / 32 * 32 + p.val % 32 = p.val; omega)

/-- Rows and columns number the pixels. -/
def pixels : Fin 32 × Fin 32 ≃ Fin 1024 where
  toFun a := pixel a.1 a.2
  invFun p := (rowOf p, colOf p)
  left_inv a := Prod.ext (rowOf_pixel a.1 a.2) (colOf_pixel a.1 a.2)
  right_inv p := pixel_rowOf p

/-- A sum over the pixels, by rows and columns. -/
theorem sum_pixels (f : Fin 1024 → ℝ) : ∑ h : Fin 32, ∑ w : Fin 32, f (pixel h w) = ∑ p, f p :=
  (Fintype.sum_prod_type' (fun h w => f (pixel h w))).symm.trans (Equiv.sum_comp pixels f)

variable (x : S8x256x32x32.Idx → ℝ) (q : S1024x256.Idx → ℝ)

/-- An image of real numbers. -/
def image : FVec Ideal S8x256x32x32 .f32 := fun i => (x i : EReal)
/-- A codebook of real numbers. -/
def book : FVec Ideal S1024x256 .f32 := fun i => (q i : EReal)

/-- The reference's first result is the quantized image: adding back what was taken away changes nothing. -/
theorem result0_eq : result0 (F := Ideal) (image x) (book q) = quant (image x) (book q) := by
  funext i
  obtain ⟨b, c, h, w, rfl⟩ : ∃ (b : Fin 8) (c : Fin 256) (h w : Fin 32), i = (ix4 b c h w : S8x256x32x32.Idx) :=
    ⟨_, _, _, _, eq_ix4 (n0 := 8) (n1 := 256) (n2 := 32) (n3 := 32) i⟩
  have e : result0 (F := Ideal) (image x) (book q) (ix4 b c h w)
      = image x (ix4 b c h w) + (chosen (F := Ideal) (image x) (book q) (ix4 b h w c) - image x (ix4 b c h w)) := by
    pointwise [result0, moved]
  rw [e, chosen_apply]
  show ((x (ix4 b c h w) : ℝ) : EReal) + (((q (ix2 (near (image x) (book q) b (pixel h w)) c) : ℝ) : EReal) - ((x (ix4 b c h w) : ℝ) : EReal))
    = ((q (ix2 (near (image x) (book q) b (pixel h w)) c) : ℝ) : EReal)
  rw [← EReal.coe_sub, ← EReal.coe_add]
  congr 1
  ring

/-- The difference between the nearest code and the vector, at a pixel and channel. -/
def gap (b : Fin 8) (p : Fin 1024) (c : Fin 256) : ℝ :=
  q (ix2 (near (image x) (book q) b p) c) - x (ix4 b c (rowOf p) (colOf p))

/-- The sum of the squares of all those differences. -/
def total : ℝ := ∑ b : Fin 8, ∑ p : Fin 1024, ∑ c : Fin 256, gap x q b p c * gap x q b p c

/-- The distance to the nearest code is the sum of the squares of the differences. -/
theorem dists_near (b : Fin 8) (p : Fin 1024) :
    dists (image x) (book q) b p (near (image x) (book q) b p) = ((∑ c, gap x q b p c * gap x q b p c : ℝ) : EReal) :=
  dist_real (fun c => x (ix4 b c (rowOf p) (colOf p))) (fun k c => q (ix2 k c)) _

/-- The distances to the nearest codes add up to the total. -/
theorem sum_dists : ∑ b : Fin 8, ∑ p : Fin 1024, dists (image x) (book q) b p (near (image x) (book q) b p)
    = ((total x q : ℝ) : EReal) := by
  simp only [dists_near, ← coe_sum]
  rfl

/-- The mean of the squares of an array whose squares are those of the differences is the total over the count. -/
theorem meanSquare_gap (d : FVec Ideal S8x32x32x256 .f32) (i : S_.Idx)
    (hd : ∀ b h w c, d (ix4 b h w c) * d (ix4 b h w c) = ((gap x q b (pixel h w) c * gap x q b (pixel h w) c : ℝ) : EReal)) :
    meanSquare (F := Ideal) d i = ((total x q * (1 / 2097152) : ℝ) : EReal) := by
  have e : ∀ b : Fin 8, ∑ h : Fin 32, ∑ w : Fin 32, ∑ c : Fin 256, gap x q b (pixel h w) c * gap x q b (pixel h w) c
      = ∑ p : Fin 1024, ∑ c : Fin 256, gap x q b p c * gap x q b p c :=
    fun b => sum_pixels fun p => ∑ c : Fin 256, gap x q b p c * gap x q b p c
  rw [meanSquare_apply]
  simp only [hd, ← coe_sum, e]
  rw [ofBits_entries, Ideal.div_coe (by norm_num), ← EReal.coe_mul]
  rfl

/-- The entry of the moved image, as a real number. -/
theorem moved_real (b : Fin 8) (h w : Fin 32) (c : Fin 256) :
    moved (F := Ideal) (image x) (ix4 b h w c) = ((x (ix4 b c (rowOf (pixel h w)) (colOf (pixel h w))) : ℝ) : EReal) := by
  rw [moved_apply, rowOf_pixel, colOf_pixel]
  rfl

/-- The entry of the chosen codes, as a real number. -/
theorem chosen_real (b : Fin 8) (h w : Fin 32) (c : Fin 256) :
    chosen (F := Ideal) (image x) (book q) (ix4 b h w c) = ((q (ix2 (near (image x) (book q) b (pixel h w)) c) : ℝ) : EReal) :=
  chosen_apply _ _ b h w c

/-- The reference's third result is the loss: a mean less a quarter of it is three quarters of it. -/
theorem result2_eq : result2 (F := Ideal) (image x) (book q) = loss (image x) (book q) := by
  funext i
  have e : result2 (F := Ideal) (image x) (book q) i
      = meanSquare (F := Ideal) (subf (chosen (image x) (book q)) (moved (image x))) i
        - Ideal.ofBits .f32 0x3E800000#32 * meanSquare (F := Ideal) (subf (moved (image x)) (chosen (image x) (book q))) i := rfl
  have e1 := meanSquare_gap x q (subf (chosen (F := Ideal) (image x) (book q)) (moved (image x))) i (by
    intro b h w c
    show (chosen (F := Ideal) (image x) (book q) (ix4 b h w c) - moved (F := Ideal) (image x) (ix4 b h w c))
      * (chosen (F := Ideal) (image x) (book q) (ix4 b h w c) - moved (F := Ideal) (image x) (ix4 b h w c)) = _
    rw [moved_real, chosen_real, ← EReal.coe_sub, ← EReal.coe_mul]
    rfl)
  have e2 := meanSquare_gap x q (subf (moved (F := Ideal) (image x)) (chosen (image x) (book q))) i (by
    intro b h w c
    show (moved (F := Ideal) (image x) (ix4 b h w c) - chosen (F := Ideal) (image x) (book q) (ix4 b h w c))
      * (moved (F := Ideal) (image x) (ix4 b h w c) - chosen (F := Ideal) (image x) (book q) (ix4 b h w c)) = _
    rw [moved_real, chosen_real, ← EReal.coe_sub, ← EReal.coe_mul]
    congr 1
    unfold gap
    ring)
  rw [e, e1, e2, ofBits_quarter]
  unfold loss
  rw [sum_dists, ofBits_entries, ofBits_threeQuarters, Ideal.div_coe (by norm_num), ← EReal.coe_mul, ← EReal.coe_mul, ← EReal.coe_mul,
    ← EReal.coe_sub]
  congr 1
  ring

/-- Under the precondition the reference's first and third results are the quantized image and the loss. -/
theorem results_finite [Cert.Pre_finite.Facts] (z : FVec Ideal S8x256x32x32 .f32) (cb : FVec Ideal S1024x256 .f32)
    (h : (Cert.Pre_finite.fn (F := Ideal) z cb).1 = (fun _ => 1#1) ∧ (Cert.Pre_finite.fn (F := Ideal) z cb).2 = (fun _ => 1#1)) :
    result0 (F := Ideal) z cb = quant z cb ∧ result2 (F := Ideal) z cb = loss z cb := by
  obtain ⟨x, q, hx, hq⟩ := reals_of_finite z cb h
  have hx' : z = image x := hx
  have hq' : cb = book q := hq
  rw [hx', hq']
  exact ⟨result0_eq x q, result2_eq x q⟩

end Cert.ReferenceIdeal.Line

end
-- ==== Proof.lean ====
/- The certificate: the frames of the three programs, and the equality of the results of the idealized kernel and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem

/-- At finite arguments the kernel and the reference both end with the quantized image, the codes' numbers and the loss. -/
theorem equal : algebraic_KernelIdeal_ReferenceIdeal_pre_finite (hKernelIdeal := Cert.KernelIdeal.Gen.facts)
    (hReferenceIdeal := Cert.ReferenceIdeal.Gen.facts) (hPre_finite := Cert.Vq.finite_facts) := by
  intro m g m' g' hpre hargs
  refine ⟨fun c => Cert.Vq.quant (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Vq.numbers (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Vq.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arrays.run m g, ?_⟩
  refine (θ_run _ _ _).mono (fun r h c => ?_) (Cert.ReferenceIdeal.Line.run (F := Ideal) m' g')
  obtain ⟨h0, h1, h2, ha, hb⟩ := h c
  rw [(hargs c).1, (hargs c).2] at h0 h1 h2
  letI := Cert.Vq.finite_facts
  obtain ⟨e0, e2⟩ := Cert.ReferenceIdeal.Line.results_finite _ _ (hpre c)
  exact ⟨h0.trans e0, h1.trans (Cert.ReferenceIdeal.Line.result1_eq _ _), h2.trans e2, ha, hb⟩

/-- Everything the certificate claims. -/
theorem claim : Cert.Claim := ⟨Cert.Kernel.Gen.facts, Cert.KernelIdeal.Gen.facts, Cert.ReferenceIdeal.Gen.facts, Cert.Vq.finite_facts,
  fun m g _ => Cert.Kernel.Gen.frame m g,
  fun m g _ => Cert.KernelIdeal.Gen.frame m g,
  fun m g _ => Cert.KernelIdeal.Gen.frame m g,
  fun m g _ => Cert.ReferenceIdeal.Line.frame m g,
  fun m g _ => Cert.ReferenceIdeal.Line.frame m g,
  trivial,
  equal⟩

end Cert.Proof

end
